-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_top [hPre_below_top : Cert.Pre_below_top.Facts] (m : (ℓ : Loc Cert.KernelIdeal.nD Cert.KernelIdeal.τ Cert.KernelIdeal.sig) → Buf (Elt Ideal) ℓ) : Prop :=
  ∀ c : Dev Cert.KernelIdeal.nD,
    (Cert.Pre_below_top.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_top [hPre_below_top : Cert.Pre_below_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_top.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_top [hKernelIdeal : Cert.KernelIdeal.Facts] [hPre_below_top : Cert.Pre_below_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_top [hReferenceIdeal : Cert.ReferenceIdeal.Facts] [hPre_below_top : Cert.Pre_below_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_top [hKernelIdeal : Cert.KernelIdeal.Facts] [hReferenceIdeal : Cert.ReferenceIdeal.Facts] [hPre_below_top : Cert.Pre_below_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_top : Cert.Pre_below_top.Facts),
    quiescent_Kernel (hKernel := hKernel)
    ∧ quiescent_KernelIdeal (hKernelIdeal := hKernelIdeal)
    ∧ quiescent_KernelIdeal_pre_below_top (hKernelIdeal := hKernelIdeal) (hPre_below_top := hPre_below_top)
    ∧ quiescent_ReferenceIdeal (hReferenceIdeal := hReferenceIdeal)
    ∧ quiescent_ReferenceIdeal_pre_below_top (hReferenceIdeal := hReferenceIdeal) (hPre_below_top := hPre_below_top)
    ∧ preserves_Kernel_KernelIdeal
    ∧ algebraic_KernelIdeal_ReferenceIdeal_pre_below_top (hKernelIdeal := hKernelIdeal) (hReferenceIdeal := hReferenceIdeal) (hPre_below_top := hPre_below_top)
-- ==== Pre_below_top.lean ====
abbrev S65536x1296 : Shape := ⟨2, ![65536, 1296]⟩
abbrev S_ : Shape := ⟨0, ![]⟩

class Facts : Prop where
  bcast_S_S65536x1296 : S_.BroadcastsInDim S65536x1296 (![] : Fin 0 → Fin S65536x1296.rank)

variable [Facts]

def fn {F : FTy → Type} [FloatOps F] (main_arg0 : FVec F S65536x1296 .f32) : IVec S65536x1296 1 :=
  let main_cst : FVec F S_ .f32 := constant S_ .f32 0x7F800000#32
  let main_v0 : FVec F S65536x1296 .f32 := broadcastInDim S65536x1296 ![] bcast_S_S65536x1296 main_cst
  let main_v1 : IVec S65536x1296 1 := cmpf .olt main_arg0 main_v0
  main_v1
-- ==== Kernel.lean ====
abbrev S65536x1296 : Shape := ⟨2, ![65536, 1296]⟩
abbrev S256x1296 : Shape := ⟨2, ![256, 1296]⟩
abbrev S1296x256 : Shape := ⟨2, ![1296, 256]⟩
abbrev S36x36x256 : Shape := ⟨3, ![36, 36, 256]⟩
abbrev S36x256 : Shape := ⟨2, ![36, 256]⟩
abbrev S36x1x256 : Shape := ⟨3, ![36, 1, 256]⟩
abbrev S1x36x256 : Shape := ⟨3, ![1, 36, 256]⟩
abbrev S65536x36x36 : Shape := ⟨3, ![65536, 36, 36]⟩

abbrev nBuf : Space → Nat
  | .hbm => 3
  | .vmem => 4
  | .smem => 0
  | _ => 0

abbrev bufTy : (tb : Table) → Fin (tcTables nBuf tb) → BufTy
  | .hbm, ⟨0, _⟩ => ⟨S65536x1296, .f32⟩
  | .hbm, ⟨1, _⟩ => ⟨S65536x1296, .f32⟩
  | .hbm, ⟨2, _⟩ => ⟨S65536x36x36, .f32⟩
  | .local _ .vmem, ⟨0, _⟩ => ⟨S256x1296, .f32⟩
  | .local _ .vmem, ⟨1, _⟩ => ⟨S256x1296, .f32⟩
  | .local _ .vmem, ⟨2, _⟩ => ⟨S256x1296, .f32⟩
  | .local _ .vmem, ⟨3, _⟩ => ⟨S256x1296, .f32⟩
  | _, _ => ⟨S65536x1296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1296 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1296 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x1296 : Shape := ⟨2, ![65536, 1296]⟩
abbrev S_ : Shape := ⟨0, ![]⟩
abbrev S65536x36x36 : Shape := ⟨3, ![65536, 36, 36]⟩
abbrev S65536x36 : Shape := ⟨2, ![65536, 36]⟩
abbrev S65536x36x1 : Shape := ⟨3, ![65536, 36, 1]⟩
abbrev S65536x1x36 : Shape := ⟨3, ![65536, 1, 36]⟩

abbrev nBuf : Space → Nat
  | .hbm => 61
  | .vmem => 0
  | .smem => 0
  | _ => 0

abbrev bufTy : (tb : Table) → Fin (tcTables nBuf tb) → BufTy
  | .hbm, ⟨0, _⟩ => ⟨S65536x1296, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S65536x36x36, .f32⟩
  | .hbm, ⟨5, _⟩ => ⟨S65536x36x36, .f32⟩
  | .hbm, ⟨6, _⟩ => ⟨S65536x36x36, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S65536x36x36, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S65536x36, .f32⟩
  | .hbm, ⟨18, _⟩ => ⟨S65536x36x1, .f32⟩
  | .hbm, ⟨19, _⟩ => ⟨S65536x36x1, .f32⟩
  | .hbm, ⟨20, _⟩ => ⟨S_, .f32⟩
  | .hbm, ⟨21, _⟩ => ⟨S65536x36x1, .f32⟩
  | .hbm, ⟨22, _⟩ => ⟨S65536x36x1, .i1⟩
  | .hbm, ⟨23, _⟩ => ⟨S_, .f32⟩
  | .hbm, ⟨24, _⟩ => ⟨S_, .f32⟩
  | .hbm, ⟨25, _⟩ => ⟨S65536x36x1, .f32⟩
  | .hbm, ⟨26, _⟩ => ⟨S65536x36x1, .f32⟩
  | .hbm, ⟨27, _⟩ => ⟨S65536x36x36, .f32⟩
  | .hbm, ⟨28, _⟩ => ⟨S65536x36x36, .f32⟩
  | .hbm, ⟨29, _⟩ => ⟨S65536x36x36, .f32⟩
  | .hbm, ⟨30, _⟩ => ⟨S_, .f32⟩
  | .hbm, ⟨31, _⟩ => ⟨S65536x36, .f32⟩
  | .hbm, ⟨32, _⟩ => ⟨S65536x36x1, .f32⟩
  | .hbm, ⟨33, _⟩ => ⟨S65536x36x1, .f32⟩
  | .hbm, ⟨34, _⟩ => ⟨S65536x36x1, .f32⟩
  | .hbm, ⟨35, _⟩ => ⟨S65536x36x36, .f32⟩
  | .hbm, ⟨36, _⟩ => ⟨S65536x36x36, .f32⟩
  | .hbm, ⟨37, _⟩ => ⟨S_, .f32⟩
  | .hbm, ⟨38, _⟩ => ⟨S65536x36, .f32⟩
  | .hbm, ⟨39, _⟩ => ⟨S65536x1x36, .f32⟩
  | .hbm, ⟨40, _⟩ => ⟨S65536x1x36, .f32⟩
  | .hbm, ⟨41, _⟩ => ⟨S_, .f32⟩
  | .hbm, ⟨42, _⟩ => ⟨S65536x1x36, .f32⟩
  | .hbm, ⟨43, _⟩ => ⟨S65536x1x36, .i1⟩
  | .hbm, ⟨44, _⟩ => ⟨S_, .f32⟩
  | .hbm, ⟨45, _⟩ => ⟨S_, .f32⟩
  | .hbm, ⟨46, _⟩ => ⟨S65536x1x36, .f32⟩
  | .hbm, ⟨47, _⟩ => ⟨S65536x1x36, .f32⟩
  | .hbm, ⟨48, _⟩ => ⟨S65536x36x36, .f32⟩
  | .hbm, ⟨49, _⟩ => ⟨S65536x36x36, .f32⟩
  | .hbm, ⟨50, _⟩ => ⟨S65536x36x36, .f32⟩
  | .hbm, ⟨51, _⟩ => ⟨S_, .f32⟩
  | .hbm, ⟨52, _⟩ => ⟨S65536x36, .f32⟩
  | .hbm, ⟨53, _⟩ => ⟨S65536x1x36, .f32⟩
  | .hbm, ⟨54, _⟩ => ⟨S65536x1x36, .f32⟩
  | .hbm, ⟨55, _⟩ => ⟨S65536x1x36, .f32⟩
  | .hbm, ⟨56, _⟩ => ⟨S65536x36x36, .f32⟩
  | .hbm, ⟨57, _⟩ => ⟨S65536x36x36, .f32⟩
  | .hbm, ⟨58, _⟩ => ⟨S_, .i32⟩
  | .hbm, ⟨59, _⟩ => ⟨S_, .i32⟩
  | .hbm, ⟨60, _⟩ => ⟨S65536x36x36, .f32⟩
  | _, _ => ⟨S65536x1296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_while0c_c_4 : Ref sig .tc := ⟨.hbm, 12, rfl⟩
abbrev main_while0c_v6 : Ref sig .tc := ⟨.hbm, 13, rfl⟩
abbrev main_while0b_c_4 : Ref sig .tc := ⟨.hbm, 14, rfl⟩
abbrev main_while0b_v6 : Ref sig .tc := ⟨.hbm, 15, rfl⟩
abbrev main_while0b_cst_5 : Ref sig .tc := ⟨.hbm, 16, rfl⟩
abbrev main_while0b_v7 : Ref sig .tc := ⟨.hbm, 17, rfl⟩
abbrev main_while0b_v8 : Ref sig .tc := ⟨.hbm, 18, rfl⟩
abbrev main_while0b_v9 : Ref sig .tc := ⟨.hbm, 19, rfl⟩
abbrev main_while0b_cst_6 : Ref sig .tc := ⟨.hbm, 20, rfl⟩
abbrev main_while0b_v10 : Ref sig .tc := ⟨.hbm, 21, rfl⟩
abbrev main_while0b_v11 : Ref sig .tc := ⟨.hbm, 22, rfl⟩
abbrev main_while0b_cst_7 : Ref sig .tc := ⟨.hbm, 23, rfl⟩
abbrev main_while0b_call0_v0 : Ref sig .tc := ⟨.hbm, 24, rfl⟩
abbrev main_while0b_call0_v1 : Ref sig .tc := ⟨.hbm, 25, rfl⟩
abbrev main_while0b_v12 : Ref sig .tc := ⟨.hbm, 26, rfl⟩
abbrev main_while0b_v13 : Ref sig .tc := ⟨.hbm, 27, rfl⟩
abbrev main_while0b_v14 : Ref sig .tc := ⟨.hbm, 28, rfl⟩
abbrev main_while0b_v15 : Ref sig .tc := ⟨.hbm, 29, rfl⟩
abbrev main_while0b_cst_8 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_v19 : Ref sig .tc := ⟨.hbm, 34, rfl⟩
abbrev main_while0b_v20 : Ref sig .tc := ⟨.hbm, 35, rfl⟩
abbrev main_while0b_v21 : Ref sig .tc := ⟨.hbm, 36, rfl⟩
abbrev main_while0b_cst_9 : Ref sig .tc := ⟨.hbm, 37, rfl⟩
abbrev main_while0b_v22 : Ref sig .tc := ⟨.hbm, 38, rfl⟩
abbrev main_while0b_v23 : Ref sig .tc := ⟨.hbm, 39, rfl⟩
abbrev main_while0b_v24 : Ref sig .tc := ⟨.hbm, 40, rfl⟩
abbrev main_while0b_cst_10 : Ref sig .tc := ⟨.hbm, 41, rfl⟩
abbrev main_while0b_v25 : Ref sig .tc := ⟨.hbm, 42, rfl⟩
abbrev main_while0b_v26 : Ref sig .tc := ⟨.hbm, 43, rfl⟩
abbrev main_while0b_cst_11 : Ref sig .tc := ⟨.hbm, 44, rfl⟩
abbrev main_while0b_call1_v0 : Ref sig .tc := ⟨.hbm, 45, rfl⟩
abbrev main_while0b_call1_v1 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_cst_12 : Ref sig .tc := ⟨.hbm, 51, rfl⟩
abbrev main_while0b_v31 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_c_13 : Ref sig .tc := ⟨.hbm, 58, rfl⟩
abbrev main_while0b_v37 : Ref sig .tc := ⟨.hbm, 59, rfl⟩
abbrev main_v5 : Ref sig .tc := ⟨.hbm, 60, rfl⟩

abbrev nD : Nat := 1
abbrev τ : Topo := Topo.v7x

variable {F : FTy → Type} [FloatOps F]

abbrev main_while0_count : Scf.Loop 32 := ⟨0#32, 21#32, 1#32⟩
-- ==== Proof.Sinkhorn.lean ====
/-
  The mathematics of the claim, with no program in it: the two ways the kernel and the reference take the logarithm of
  a sum of exponentials over 36 extended reals, and what 21 Sinkhorn iterations of either kind make of a 36 x 36
  matrix.

  The kernel shifts by the maximum, whatever it is. The reference shifts by the maximum only where that is a real
  number, and by zero otherwise. Where no entry is plus infinity the two agree (`lse_eq`), and subtracting the result
  leaves no entry plus infinity (`sub_lse_lt_top`), so the iterations agree too (`iterates_eq`).
-/
module

public import Idealize.ShloMosaic.PureOps
public import Idealize.ShloMosaic.PureOps.Ideal

@[expose] public section

noncomputable section

open Idealize.ShloMosaic

namespace Cert.Sinkhorn

/-- The greatest of 36 extended reals. -/
def peak (g : Fin 36 → EReal) : EReal := Finset.univ.fold max (⊥ : EReal) g

/-- The sum of the exponentials of 36 extended reals, each shifted down by `z`. -/
def mass (z : EReal) (g : Fin 36 → EReal) : EReal := ∑ k : Fin 36, Ideal.exp (g k - z)

/-- The kernel's logarithm of a sum of exponentials: shifted by the maximum. -/
def lse (g : Fin 36 → EReal) : EReal := Ideal.log (mass (peak g) g) + peak g

/-- The reference's shift: the maximum where it is a real number, else zero. -/
def shift (g : Fin 36 → EReal) : EReal := if max (peak g) (-peak g) < ⊤ then peak g else 0

/-- The reference's logarithm of a sum of exponentials. -/
def hostLse (g : Fin 36 → EReal) : EReal := Ideal.log (mass (shift g) g) + shift g

theorem peak_eq_sup (g : Fin 36 → EReal) : peak g = Finset.univ.sup g := rfl

theorem le_peak (g : Fin 36 → EReal) (k : Fin 36) : g k ≤ peak g := by
  rw [peak_eq_sup]; exact Finset.le_sup (Finset.mem_univ k)

/-- The maximum is one of the entries. -/
theorem exists_peak (g : Fin 36 → EReal) : ∃ k, g k = peak g := by
  obtain ⟨k, _, hk⟩ := Finset.exists_mem_eq_sup Finset.univ ⟨(0 : Fin 36), Finset.mem_univ _⟩ g
  exact ⟨k, by rw [peak_eq_sup]; exact hk.symm⟩

theorem exp_nonneg (x : EReal) : 0 ≤ Ideal.exp x := by
  induction x with
  | bot => simp
  | top => simp
  | coe r => rw [Ideal.exp_coe]; exact_mod_cast (Real.exp_pos r).le

theorem mass_nonneg (z : EReal) (g : Fin 36 → EReal) : 0 ≤ mass z g :=
  Finset.sum_nonneg fun _ _ => exp_nonneg _

/-- Shifted by a maximum that is a real number, the sum is at least one: the greatest entry gives `exp 0`. -/
theorem one_le_mass (g : Fin 36 → EReal) (r : ℝ) (h : peak g = r) : 1 ≤ mass (peak g) g := by
  obtain ⟨k, hk⟩ := exists_peak g
  have h1 : Ideal.exp (g k - peak g) = 1 := by
    rw [hk, h, ← EReal.coe_sub, sub_self, Ideal.exp_coe, Real.exp_zero]; rfl
  rw [← h1]
  exact Finset.single_le_sum (f := fun j => Ideal.exp (g j - peak g)) (fun _ _ => exp_nonneg _) (Finset.mem_univ k)

theorem log_ne_bot (s : EReal) (h : 1 ≤ s) : Ideal.log s ≠ ⊥ := by
  induction s with
  | bot => exact absurd (le_bot_iff.mp h) (EReal.coe_ne_bot 1)
  | top => simp
  | coe r =>
    have h' : (1 : ℝ) ≤ r := by exact_mod_cast h
    rw [Ideal.log_coe, if_neg (by linarith)]
    exact EReal.coe_ne_bot _

/-- Where the maximum is minus infinity every shifted exponential is zero, whatever the shift. -/
theorem mass_bot (z : EReal) (g : Fin 36 → EReal) (h : peak g = ⊥) : mass z g = 0 := by
  refine Finset.sum_eq_zero fun k _ => ?_
  have hk : g k = ⊥ := le_bot_iff.mp (h ▸ le_peak g k)
  rw [hk, EReal.bot_sub, Ideal.exp_bot]

theorem log_zero : Ideal.log 0 = ⊥ := by
  show Ideal.log ((0 : ℝ) : EReal) = ⊥
  rw [Ideal.log_coe, if_pos le_rfl]

theorem peak_lt_top (g : Fin 36 → EReal) (h : ∀ k, g k < ⊤) : peak g < ⊤ := by
  obtain ⟨k, hk⟩ := exists_peak g
  rw [← hk]; exact h k

/-- Where no entry is plus infinity the two logarithms of a sum of exponentials are one. -/
theorem lse_eq (g : Fin 36 → EReal) (h : ∀ k, g k < ⊤) : hostLse g = lse g := by
  have ht := (peak_lt_top g h).ne
  unfold hostLse lse shift
  by_cases hb : peak g = ⊥
  · rw [mass_bot _ g hb, mass_bot _ g hb, hb, EReal.neg_bot, max_eq_right bot_le, if_neg (lt_irrefl _), log_zero, add_zero,
      EReal.bot_add]
  · rw [if_pos (max_lt (lt_top_iff_ne_top.mpr ht) (lt_top_iff_ne_top.mpr fun e => hb (EReal.neg_eq_top_iff.mp e)))]

/-- Subtracting the kernel's logarithm leaves no entry plus infinity. -/
theorem sub_lse_lt_top (g : Fin 36 → EReal) (h : ∀ k, g k < ⊤) (k : Fin 36) : g k - lse g < ⊤ := by
  have ht := (peak_lt_top g h).ne
  by_cases hb : peak g = ⊥
  · have hk : g k = ⊥ := le_bot_iff.mp (hb ▸ le_peak g k)
    rw [hk, EReal.bot_sub]; exact bot_lt_top
  · obtain ⟨r, hr⟩ : ∃ r : ℝ, peak g = r := ⟨(peak g).toReal, (EReal.coe_toReal ht hb).symm⟩
    have hl : lse g ≠ ⊥ := by
      unfold lse
      rw [Ne, EReal.add_eq_bot_iff, not_or]
      exact ⟨log_ne_bot _ (one_le_mass g r hr), hb⟩
    rw [sub_eq_add_neg]
    refine EReal.add_lt_top (h k).ne ?_
    rw [Ne, EReal.neg_eq_top_iff]; exact hl

/-! ## The iterations -/

/-- A 36 x 36 matrix of extended reals. -/
abbrev Mat := Fin 36 → Fin 36 → EReal

/-- Every entry of a row loses the row's `l`. -/
def rows (l : (Fin 36 → EReal) → EReal) (f : Mat) : Mat := fun r c => f r c - l (f r)

/-- Every entry of a column loses the column's `l`. -/
def cols (l : (Fin 36 → EReal) → EReal) (f : Mat) : Mat := fun r c => f r c - l fun k => f k c

/-- One Sinkhorn iteration: rows, then columns. -/
def round (l : (Fin 36 → EReal) → EReal) (f : Mat) : Mat := cols l (rows l f)

/-- No entry of the matrix is plus infinity. -/
def Below (f : Mat) : Prop := ∀ r c, f r c < ⊤

theorem Below.rows {f : Mat} (h : Below f) : Below (rows lse f) := fun r c => sub_lse_lt_top (f r) (h r) c

theorem Below.cols {f : Mat} (h : Below f) : Below (cols lse f) :=
  fun r c => sub_lse_lt_top (fun k => f k c) (fun k => h k c) r

theorem rows_eq {f : Mat} (h : Below f) : rows hostLse f = rows lse f :=
  funext fun r => funext fun c => by unfold Cert.Sinkhorn.rows; rw [lse_eq (f r) (h r)]

theorem cols_eq {f : Mat} (h : Below f) : cols hostLse f = cols lse f :=
  funext fun r => funext fun c => by unfold Cert.Sinkhorn.cols; rw [lse_eq (fun k => f k c) fun k => h k c]

theorem round_eq {f : Mat} (h : Below f) : round hostLse f = round lse f := by
  unfold Cert.Sinkhorn.round
  rw [rows_eq h, cols_eq h.rows]

theorem Below.iterate {f : Mat} (h : Below f) : ∀ n, Below ((round lse)^[n] f)
  | 0 => h
  | n + 1 => by
    rw [Function.iterate_succ_apply']
    exact (h.iterate n).rows.cols

/-- From a matrix without plus infinity the reference's iterations and the kernel's are the same matrices. -/
theorem iterates_eq {f : Mat} (h : Below f) : ∀ n, (round hostLse)^[n] f = (round lse)^[n] f
  | 0 => rfl
  | n + 1 => by
    rw [Function.iterate_succ_apply', Function.iterate_succ_apply', iterates_eq h n, round_eq (h.iterate n)]

/-! ## The constants -/

/-- The temperature's reciprocal. -/
abbrev hundred : EReal := ((100 : ℝ) : EReal)

theorem ofBits_hundred : Ideal.ofBits .f32 0x42C80000#32 = hundred := by
  simp [Ideal.ofBits, Ideal.ieee, -EReal.coe_mul]; norm_num

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

/-- Dividing by the quotient of one and a hundred multiplies by a hundred. -/
theorem div_hundredth (x : EReal) : Ideal.div x (Ideal.div 1 hundred) = x * hundred := by
  rw [Ideal.div_coe (by norm_num), one_mul, Ideal.div_coe (by norm_num)]
  norm_num

/-! ## One sample -/

/-- Where the iterations start: the sample's 1296 entries as a matrix, each times a hundred. -/
def scaled (x : Fin 1296 → EReal) : Mat := fun r c => x ⟨r.val * 36 + c.val, by omega⟩ * hundred

/-- The kernel's matrix of one sample: the exponential after 21 iterations. -/
def result (x : Fin 1296 → EReal) : Mat := fun r c => Ideal.exp ((round lse)^[21] (scaled x) r c)

theorem below_scaled {x : Fin 1296 → EReal} (h : ∀ k, x k < ⊤) : Below (scaled x) := fun r c => by
  unfold scaled
  generalize hy : x _ = y
  have hlt : y < ⊤ := hy ▸ h _
  induction y with
  | bot => rw [EReal.bot_mul_coe_of_pos (by norm_num)]; exact bot_lt_top
  | top => exact absurd hlt (lt_irrefl _)
  | coe r => rw [← EReal.coe_mul]; exact EReal.coe_lt_top _

/-- So the reference's matrix of a sample without plus infinity is the kernel's. -/
theorem result_eq {x : Fin 1296 → EReal} (h : ∀ k, x k < ⊤) (r c : Fin 36) :
    Ideal.exp ((round hostLse)^[21] (scaled x) r c) = result x r c := by
  unfold result
  rw [iterates_eq (below_scaled h)]

end Cert.Sinkhorn

end
-- ==== Proof.KernelSteps.lean ====
/-
  The kernel's block, computed: the body's 21 unrolled iterations, cut by the generated payloads in the middle of
  iterations, are a `start` of the loaded block followed by 21 pairs of a row step and a column step, and an exponential
  laid out as the output block (`out_eq`). Each step is then read at an index, where it is the row or column step of
  the matrix of one sample (`mat_rowStep`, `mat_colStep`).
-/
module

public import proofs.«01_k».proof.Proof.Sinkhorn
public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe

namespace Cert.KernelIdeal.Steps

open Cert.KernelIdeal Cert.KernelIdeal.Gen

variable {F : FTy → Type} [FloatOps F]

/-! ## The vector operations of one step, named -/

/-- The maximum of each row, over the columns. -/
def rowMax (a : FVec F S36x36x256 .f32) : FVec F S36x1x256 .f32 :=
  shapeCast S36x1x256 (multiReduction .maximumf [1] S36x256 a 0xFF800000#32 reduces_S36x36x256_S36x256 (.inl rfl) rfl)
    shapeCasts_S36x256_S36x1x256

/-- The entries shifted down by the maximum of their row. -/
def rowShift (a : FVec F S36x36x256 .f32) : FVec F S36x36x256 .f32 :=
  subf a (broadcastTo S36x36x256 (rowMax a) broadcasts_S36x1x256_S36x36x256)

/-- The logarithm of the sum of the exponentials of each row. -/
def rowLse (a : FVec F S36x36x256 .f32) : FVec F S36x1x256 .f32 :=
  addf (log (shapeCast S36x1x256 (multiReduction .add [1] S36x256 (exp (rowShift a)) 0x00000000#32
    reduces_S36x36x256_S36x256 (.inl rfl) rfl) shapeCasts_S36x256_S36x1x256)) (rowMax a)

/-- The row step: every entry loses its row's logarithm. -/
def rowStep (a : FVec F S36x36x256 .f32) : FVec F S36x36x256 .f32 :=
  subf a (broadcastTo S36x36x256 (rowLse a) broadcasts_S36x1x256_S36x36x256)

/-- The maximum of each column, over the rows. -/
def colMax (a : FVec F S36x36x256 .f32) : FVec F S36x256 .f32 :=
  multiReduction .maximumf [0] S36x256 a 0xFF800000#32 reduces_S36x36x256_S36x256_2 (.inl rfl) rfl

/-- The same, as one row. -/
def colMaxRow (a : FVec F S36x36x256 .f32) : FVec F S1x36x256 .f32 :=
  shapeCast S1x36x256 (colMax a) shapeCasts_S36x256_S1x36x256

/-- The sum of the exponentials of the entries of each column, shifted down by its maximum. -/
def colSum (a : FVec F S36x36x256 .f32) : FVec F S36x256 .f32 :=
  multiReduction .add [0] S36x256 (exp (subf a (broadcastTo S36x36x256 (colMaxRow a) broadcasts_S1x36x256_S36x36x256)))
    0x00000000#32 reduces_S36x36x256_S36x256_2 (.inl rfl) rfl

/-- The logarithm of that sum. -/
def colLog (a : FVec F S36x36x256 .f32) : FVec F S1x36x256 .f32 :=
  log (shapeCast S1x36x256 (colSum a) shapeCasts_S36x256_S1x36x256)

/-- The logarithm of the sum of the exponentials of each column, repeated down the column. -/
def colLse (a : FVec F S36x36x256 .f32) : FVec F S36x36x256 .f32 :=
  broadcastTo S36x36x256 (addf (colLog a) (colMaxRow a)) broadcasts_S1x36x256_S36x36x256

/-- The column step: every entry loses its column's logarithm. -/
def colStep (a : FVec F S36x36x256 .f32) : FVec F S36x36x256 .f32 := subf a (colLse a)

/-- One iteration. -/
def iteration (a : FVec F S36x36x256 .f32) : FVec F S36x36x256 .f32 := colStep (rowStep a)

/-- The loaded block with samples on the last axis, its entries times a hundred. -/
def start (x : Vec F S256x1296 .f32) : FVec F S36x36x256 .f32 :=
  shapeCast S36x36x256 (mulf (transpose S1296x256 [1, 0] x transposes_S256x1296_p1_0_S1296x256)
    (broadcast S1296x256 (Scalar.ofBits .f32 0x42C80000#32))) shapeCasts_S1296x256_S36x36x256

/-- The exponentials of the last matrices, laid out as the output block. -/
def finish (a : FVec F S36x36x256 .f32) : FVec F S256x1296 .f32 :=
  transpose S256x1296 [1, 0] (shapeCast S1296x256 (exp a) shapeCasts_S36x36x256_S1296x256) transposes_S1296x256_p1_0_S256x1296

/-! ## The payloads, over those -/

/-- `n` iterations on the loaded block. -/
def after (n : ℕ) (x : Vec F S256x1296 .f32) : FVec F S36x36x256 .f32 := iteration^[n] (start x)

theorem pay2_eq (x : Vec F S256x1296 .f32) : k0_pay2 x = rowStep (after 1 x) := rfl
theorem pay3_eq (x : Vec F S256x1296 .f32) : k0_pay3 x = colLse (k0_pay2 x) := rfl
theorem pay4_eq (a : FVec F S36x36x256 .f32) : k0_pay4 a (colLse a) = iteration (iteration (colStep a)) := rfl
theorem pay5_eq (a b : FVec F S36x36x256 .f32) : k0_pay5 a b = rowMax (k0_pay4 a b) := rfl
theorem pay6_eq (a b : FVec F S36x36x256 .f32) : k0_pay6 a b = exp (rowShift (k0_pay4 a b)) := rfl
theorem pay7_eq (a : FVec F S36x36x256 .f32) :
    k0_pay7 a (rowMax a) (exp (rowShift a)) = rowStep (iteration (iteration a)) := rfl
theorem pay8_eq (a : FVec F S36x36x256 .f32) (b : FVec F S36x1x256 .f32) (d : FVec F S36x36x256 .f32) :
    k0_pay8 a b d = colMax (k0_pay7 a b d) := rfl
theorem pay9_eq (a : FVec F S36x36x256 .f32) : k0_pay9 a (colMax a) = rowStep (iteration (colStep a)) := rfl
theorem pay10_eq (a : FVec F S36x36x256 .f32) (b : FVec F S36x256 .f32) : k0_pay10 a b = colMaxRow (k0_pay9 a b) := rfl
theorem pay11_eq (a : FVec F S36x36x256 .f32) (b : FVec F S36x256 .f32) : k0_pay11 a b = colLog (k0_pay9 a b) := rfl
theorem pay12_eq (a : FVec F S36x36x256 .f32) :
    k0_pay12 a (colMaxRow a) (colLog a) = iteration (iteration (colStep a)) := rfl
theorem pay13_eq (a : FVec F S36x36x256 .f32) (b d : FVec F S1x36x256 .f32) :
    k0_pay13 a b d = rowMax (k0_pay12 a b d) := rfl
theorem pay14_eq (a : FVec F S36x36x256 .f32) (b d : FVec F S1x36x256 .f32) :
    k0_pay14 a b d = rowShift (k0_pay12 a b d) := rfl
theorem pay15_eq (a : FVec F S36x36x256 .f32) :
    k0_pay15 a (rowMax a) (rowShift a) = rowStep (iteration (iteration a)) := rfl
theorem pay16_eq (a : FVec F S36x36x256 .f32) : k0_pay16 a = rowStep (iteration (colStep a)) := rfl
theorem pay17_eq (a : FVec F S36x36x256 .f32) : k0_pay17 a = colMaxRow (k0_pay16 a) := rfl
theorem pay18_eq (a : FVec F S36x36x256 .f32) : k0_pay18 a = colSum (k0_pay16 a) := rfl
theorem pay19_eq (a : FVec F S36x36x256 .f32) :
    k0_pay19 a (colMaxRow a) (colSum a) = iteration (iteration (colStep a)) := rfl
theorem pay20_eq (a : FVec F S36x36x256 .f32) (b : FVec F S1x36x256 .f32) (d : FVec F S36x256 .f32) :
    k0_pay20 a b d = rowMax (k0_pay19 a b d) := rfl
theorem pay21_eq (a : FVec F S36x36x256 .f32) : k0_pay21 a (rowMax a) = iteration (iteration a) := rfl
theorem pay22_eq (a : FVec F S36x36x256 .f32) (b : FVec F S36x1x256 .f32) : k0_pay22 a b = rowLse (k0_pay21 a b) := rfl
theorem pay1_eq (a : FVec F S36x36x256 .f32) : k0_pay1 a (rowLse a) = finish (iteration a) := rfl

/-- What the body leaves in the output block: 21 iterations on the loaded block, then the exponential. -/
theorem out_eq (x : Vec F S256x1296 .f32) : out0_1 x = finish (after 21 x) := by
  have hz : (![0, 0] : Fin 2 → Nat) = fun _ => 0 := funext fun a => by fin_cases a <;> rfl
  have e23 : k0_pay23 x = rowStep (after 1 x) := by
    unfold k0_pay23; rw [View.ld_unit_zero hz, pay2_eq]
  have e24 : k0_pay24 x = colLse (rowStep (after 1 x)) := by
    unfold k0_pay24; rw [View.ld_unit_zero hz, pay3_eq, pay2_eq]
  have e25 : k0_pay25 x = after 4 x := by
    unfold k0_pay25; rw [e23, e24, pay4_eq]; rfl
  have e26 : k0_pay26 x = rowMax (after 4 x) := by rw [← e25]; rfl
  have e27 : k0_pay27 x = exp (rowShift (after 4 x)) := by rw [← e25]; rfl
  have e28 : k0_pay28 x = rowStep (after 6 x) := by
    unfold k0_pay28; rw [e25, e26, e27, pay7_eq]; rfl
  have e29 : k0_pay29 x = colMax (rowStep (after 6 x)) := by rw [← e28]; rfl
  have e30 : k0_pay30 x = rowStep (after 8 x) := by
    unfold k0_pay30; rw [e28, e29, pay9_eq]; rfl
  have e31 : k0_pay31 x = colMaxRow (rowStep (after 8 x)) := by rw [← e30]; rfl
  have e32 : k0_pay32 x = colLog (rowStep (after 8 x)) := by rw [← e30]; rfl
  have e33 : k0_pay33 x = rowStep (after 13 x) := by
    unfold k0_pay33
    rw [e30, e31, e32, pay13_eq, pay14_eq, pay12_eq, pay15_eq]; rfl
  have e34 : k0_pay34 x = rowStep (after 15 x) := by
    unfold k0_pay34; rw [e33, pay16_eq]; rfl
  have e35 : k0_pay35 x = colMaxRow (rowStep (after 15 x)) := by rw [← e34]; rfl
  have e36 : k0_pay36 x = colSum (rowStep (after 15 x)) := by rw [← e34]; rfl
  have e37 : k0_pay37 x = after 18 x := by
    unfold k0_pay37; rw [e34, e35, e36, pay19_eq]; rfl
  have e38 : k0_pay38 x = rowMax (after 18 x) := by rw [← e37]; rfl
  unfold out0_1
  rw [View.canon_unit_zero hz, e37, e38, pay22_eq, pay21_eq, pay1_eq]; rfl

/-! ## The steps at an index, over the extended reals -/

open Cert.Sinkhorn

/-- The matrix of sample `b`. -/
def mat (a : FVec Ideal S36x36x256 .f32) (b : Fin 256) : Mat := fun r c => a (ix3 r c b)

set_option maxRecDepth 16384 in
theorem mat_rowStep (a : FVec Ideal S36x36x256 .f32) (b : Fin 256) : mat (rowStep a) b = rows lse (mat a b) := by
  funext r c
  unfold mat rows lse mass peak
  pointwise [rowStep, rowLse, rowShift, rowMax]
  rw [ofBits_bot]

set_option maxRecDepth 16384 in
theorem mat_colStep (a : FVec Ideal S36x36x256 .f32) (b : Fin 256) : mat (colStep a) b = cols lse (mat a b) := by
  funext r c
  unfold mat cols lse mass peak
  pointwise [colStep, colLse, colLog, colSum, colMaxRow, colMax]
  rw [ofBits_bot]

set_option maxRecDepth 16384 in
/-- The iterations start at the sample's entries, a hundredfold. -/
theorem mat_start (x : Vec Ideal S256x1296 .f32) (b : Fin 256) : mat (start x) b = scaled fun k => x (ix2 b k) := by
  funext r c
  unfold mat scaled
  pointwise [start]
  rw [ofBits_hundred]

/-- The iterations on a block are the iterations on each sample's matrix. -/
theorem mat_after (x : Vec Ideal S256x1296 .f32) (b : Fin 256) :
    ∀ n, mat (after n x) b = (round lse)^[n] (scaled fun k => x (ix2 b k))
  | 0 => mat_start x b
  | n + 1 => by
    have h : after (n + 1) x = colStep (rowStep (after n x)) := Function.iterate_succ_apply' _ _ _
    rw [h, mat_colStep, mat_rowStep, mat_after x b n, Function.iterate_succ_apply']
    rfl

set_option maxRecDepth 16384 in
/-- The output block at sample `b` and flat position `q`: the exponential of the entry there. -/
theorem finish_apply (a : FVec Ideal S36x36x256 .f32) (b : Fin 256) (q : Fin 1296) :
    finish a (ix2 b q) = Ideal.exp (mat a b ⟨q.val / 36, by omega⟩ ⟨q.val % 36, by omega⟩) := by
  unfold mat
  pointwise [finish]

/-- What the body leaves in the output block at sample `b` and flat position `q`, of the block it loads. -/
theorem out_apply (x : Vec Ideal S256x1296 .f32) (b : Fin 256) (q : Fin 1296) :
    out0_1 x (ix2 b q) = result (fun k => x (ix2 b k)) ⟨q.val / 36, by omega⟩ ⟨q.val % 36, by omega⟩ := by
  rw [out_eq, finish_apply, mat_after]
  rfl

end Cert.KernelIdeal.Steps

end
-- ==== Proof.KernelValue.lean ====
/-
  The whole kernel: what each of its 256 grid points writes back is that point's block of one array, `flat`, whose row
  for a sample is the sample's `Sinkhorn.result` laid out flat. The blocks tile the array, so the array the grid
  leaves is `flat`, and the reshape after the grid makes of it one matrix per sample (`run`).
-/
module

public import proofs.«01_k».proof.Proof.KernelSteps
public import Idealize.ShloMosaic.Lib.Pipeline.ValueKit
public import Idealize.ShloMosaic.Lib.Pointwise
public import Idealize.ShloMosaic.Lib.StableHlo.RunRead

@[expose] public section

noncomputable section

open Idealize.ShloMosaic Idealize.ShloMosaic.TcCoe Idealize.SL.Sem

namespace Cert.KernelIdeal.Whole

open Cert.KernelIdeal Cert.KernelIdeal.Gen Cert.Sinkhorn

variable (m : (ℓ : Loc nD τ sig) → Buf (Elt Ideal) ℓ) (ρ : Dev nD → PrngReg)

/-- The kernel's argument array on device `c`. -/
abbrev arg (c : Dev nD) : Vec Ideal S65536x1296 .f32 := m ((c.tc : Thread nD τ).loc main_arg0)

/-- Every sample's matrix, laid out flat. -/
def flat (x : Vec Ideal S65536x1296 .f32) : Vec Ideal S65536x1296 .f32 := fun i =>
  result (fun k => x (ix2 (i 0) k)) ⟨(i 1).val / 36, by have : (i 1).val < 1296 := (i 1).isLt; omega⟩
    ⟨(i 1).val % 36, by omega⟩

/-- Every sample's matrix. -/
def whole (x : Vec Ideal S65536x1296 .f32) : Vec Ideal S65536x36x36 .f32 := fun i =>
  result (fun k => x (ix2 (i 0) k)) (i 1) (i 2)

/-- The block of point `t` is the `t`-th along the samples, in the output … -/
theorem index_out : ∀ t : Fin cfg0.N, win0_1.index t = ![t.val, 0] := (by decide +kernel : ∀ t : Fin grid0.N, _)

/-- … and in the input. -/
theorem index_in : ∀ t : Fin cfg0.N, win0_0.index t = ![t.val, 0] := (by decide +kernel : ∀ t : Fin grid0.N, _)

set_option maxRecDepth 16384 in
/-- The array the grid leaves. -/
theorem array_eq (c : Dev nD) : (dats m 0 c).arrAt 1 cfg0.N = flat (arg m c) := by
  refine (dats m 0 c).arrAt_eq_of_covers 1 _ (by decide +kernel) fun t hf y => ?_
  blk_simp
  rw [after0_1]
  obtain ⟨b, q, rfl⟩ : ∃ (b : Fin 256) (q : Fin 1296), y = ix2 b q := ⟨y 0, y 1, eq_ix2 y⟩
  refine (Steps.out_apply (iblk m c 0 t) b q).trans ?_
  have ht : t.val < 256 := t.isLt
  have he : (win0_1.blk t).view.emb (ix2 b q) = ix2 (⟨t.val * 256 + b.val, by omega⟩ : Fin 65536) q := by
    blk_ext [index_out]
  have hi : ∀ k : Fin 1296, iblk m c 0 t (ix2 b k) = arg m c (ix2 (⟨t.val * 256 + b.val, by omega⟩ : Fin 65536) k) := fun k => by
    blk_simp [iblk]
    refine (congrFun (V_main_arg0 m c) _).trans (congrArg (arg m c) ?_)
    blk_ext [index_in]
  rw [he]
  simp only [hi]
  rfl

/-- The reshape makes one matrix per sample. -/
theorem cast_flat (x : Vec Ideal S65536x1296 .f32) :
    shapeCast S65536x36x36 (flat x) shapeCasts_S65536x1296_S65536x36x36 = whole x := by
  funext i
  obtain ⟨s, r, q, rfl⟩ : ∃ (s : Fin 65536) (r q : Fin 36), i = ix3 s r q := ⟨i 0, i 1, i 2, eq_ix3 i⟩
  pointwise
  have hr : (r.val * 36 + q.val) / 36 = r.val := by omega
  have hq : (r.val * 36 + q.val) % 36 = q.val := by omega
  exact congrArg₂ (result fun k => x (ix2 s k)) (Fin.ext hr) (Fin.ext hq)

/-- The result buffer after the operation that follows the grid. -/
theorem tail_eq (c : Dev nD) : Pipeline.afterTail₀ cfgs (dats m) 0 (V0 m) [hostOps1] c main_v1 = whole (arg m c) := by
  rw [← cast_flat, ← array_eq m c]
  unfold Pipeline.afterTail₀
  have h := Pipeline.withArrays_arr (τ := τ) spec0 (by decide) c (V0 m c) (fun w => (dats m 0 c).arrAt w cfg0.N) 1
  refine Eq.trans ?_ (congrArg (fun z => shapeCast S65536x36x36 z shapeCasts_S65536x1296_S65536x36x36) h)
  simp only [List.flatten_cons, List.flatten_nil, List.append_nil]
  after_reads_simp
  rfl

/-- The whole run: the result array, and the argument unchanged. -/
theorem run : θ_run (defs (F := Ideal)) (onTc (τ := τ) (main (F := Ideal))) ⟨m, fun _ => 0, ρ⟩ fun r => ∀ c : Dev nD,
    r.2.mem ((c.tc : Thread nD τ).loc main_v1) = whole (arg m c)
    ∧ r.2.mem ((c.tc : Thread nD τ).loc main_arg0) = m ((c.tc : Thread nD τ).loc main_arg0) :=
  (θ_run defs _ _).mono (fun _ h c => ⟨(h.rest_eq c main_v1 (by decide)).trans (tail_eq m c),
    (h.in_eq c 0 rfl).trans ((A_eq m c 0).trans (V_main_arg0 m c))⟩) (run_main m ρ)

end Cert.KernelIdeal.Whole

end
-- ==== Proof.ReferenceValue.lean ====
/-
  The reference: one trip of its loop, read at an index, is one Sinkhorn iteration of each sample's matrix with the
  reference's logarithm of a sum of exponentials (`mat_trip`), so after the 21 trips and the exponential each sample's
  matrix is 21 such iterations from the argument's entries times a hundred (`run`).
-/
module

public import proofs.«01_k».proof.Proof.Sinkhorn
public import proofs.«01_k».proof.Proof.Gen.ReferenceIdeal.Run
public import Idealize.ShloMosaic.Lib.Pipeline.Value
public import Idealize.ShloMosaic.Lib.Pointwise

@[expose] public section

noncomputable section

open Idealize.ShloMosaic Idealize.ShloMosaic.TcCoe Idealize.SL.Sem

namespace Cert.ReferenceIdeal.Whole

open Cert.ReferenceIdeal Cert.ReferenceIdeal.Gen Cert.ReferenceIdeal.Value Cert.Sinkhorn
open Idealize.ShloMosaic.StableHlo

/-! ## The operations of one trip, named -/

/-- The maximum of each row. -/
def rowTop (a : FVec Ideal S65536x36x36 .f32) : FVec Ideal S65536x36x1 .f32 :=
  broadcastInDim S65536x36x1 ![0, 1] bcast_S65536x36_S65536x36x1_0_1
    (Host.reduce FloatOps.maximumf a (constant S_ .f32 0xFF800000#32) reducesTo_S65536x36x36_S65536x36_d2 h_S_)

/-- The shift of each row: its maximum where that is finite, else zero. -/
def rowShift (t : FVec Ideal S65536x36x1 .f32) : FVec Ideal S65536x36x1 .f32 :=
  select (cmpf .olt (Host.absf t) (broadcastInDim S65536x36x1 ![] bcast_S_S65536x36x1 (constant S_ .f32 0x7F800000#32)))
    t (broadcastInDim S65536x36x1 ![] bcast_S_S65536x36x1 (constant S_ .f32 0x00000000#32))

/-- The row half of a trip. -/
def rowHalf (a : FVec Ideal S65536x36x36 .f32) : FVec Ideal S65536x36x36 .f32 :=
  subf a (broadcastInDim S65536x36x36 ![0, 1, 2] bcast_S65536x36x1_S65536x36x36_0_1_2
    (addf (Host.log (broadcastInDim S65536x36x1 ![0, 1] bcast_S65536x36_S65536x36x1_0_1
      (Host.reduceAdd (Host.exp (subf a (broadcastInDim S65536x36x36 ![0, 1, 2] bcast_S65536x36x1_S65536x36x36_0_1_2 (rowShift (rowTop a)))))
        (constant S_ .f32 0x00000000#32) reducesTo_S65536x36x36_S65536x36_d2 h_S_))) (rowShift (rowTop a))))

/-- The maximum of each column. -/
def colTop (a : FVec Ideal S65536x36x36 .f32) : FVec Ideal S65536x1x36 .f32 :=
  broadcastInDim S65536x1x36 ![0, 2] bcast_S65536x36_S65536x1x36_0_2
    (Host.reduce FloatOps.maximumf a (constant S_ .f32 0xFF800000#32) reducesTo_S65536x36x36_S65536x36_d1 h_S_)

/-- The shift of each column. -/
def colShift (t : FVec Ideal S65536x1x36 .f32) : FVec Ideal S65536x1x36 .f32 :=
  select (cmpf .olt (Host.absf t) (broadcastInDim S65536x1x36 ![] bcast_S_S65536x1x36 (constant S_ .f32 0x7F800000#32)))
    t (broadcastInDim S65536x1x36 ![] bcast_S_S65536x1x36 (constant S_ .f32 0x00000000#32))

/-- The column half of a trip. -/
def colHalf (a : FVec Ideal S65536x36x36 .f32) : FVec Ideal S65536x36x36 .f32 :=
  subf a (broadcastInDim S65536x36x36 ![0, 1, 2] bcast_S65536x1x36_S65536x36x36_0_1_2
    (addf (Host.log (broadcastInDim S65536x1x36 ![0, 2] bcast_S65536x36_S65536x1x36_0_2
      (Host.reduceAdd (Host.exp (subf a (broadcastInDim S65536x36x36 ![0, 1, 2] bcast_S65536x1x36_S65536x36x36_0_1_2 (colShift (colTop a)))))
        (constant S_ .f32 0x00000000#32) reducesTo_S65536x36x36_S65536x36_d1 h_S_))) (colShift (colTop a))))

/-- The argument as matrices, divided by the temperature. -/
def entry (x : FVec Ideal S65536x1296 .f32) : FVec Ideal S65536x36x36 .f32 :=
  Host.divf (shapeCast S65536x36x36 x shapeCasts_S65536x1296_S65536x36x36)
    (broadcastInDim S65536x36x36 ![] bcast_S_S65536x36x36
      (Host.divf (constant S_ .f32 0x3F800000#32) (constant S_ .f32 0x42C80000#32)))

/-! ## Each at an index -/

/-- The matrix of sample `s`. -/
def mat (a : FVec Ideal S65536x36x36 .f32) (s : Fin 65536) : Mat := fun r c => a (ix3 s r c)

theorem absf_eq (x : EReal) : FloatOps.absf (F := Ideal) (φ := .f32) x = max x (-x) := rfl

theorem rowTop_apply (a : FVec Ideal S65536x36x36 .f32) (s : Fin 65536) (r : Fin 36) (u : Fin 1) :
    rowTop a (ix3 s r u) = peak (mat a s r) := by
  unfold mat peak
  pointwise [rowTop]
  rw [ofBits_bot]

theorem rowShift_apply (t : FVec Ideal S65536x36x1 .f32) (i : S65536x36x1.Idx) :
    rowShift t i = if max (t i) (-t i) < ⊤ then t i else 0 := by
  pointwise [rowShift]
  rw [ofBits_top, absf_eq]

theorem rowShift_row (a : FVec Ideal S65536x36x36 .f32) (s : Fin 65536) (r : Fin 36) :
    rowShift (rowTop a) (ix3 s r 0) = shift (mat a s r) := by
  rw [rowShift_apply, rowTop_apply]
  rfl

theorem mat_rowHalf (a : FVec Ideal S65536x36x36 .f32) (s : Fin 65536) :
    mat (rowHalf a) s = rows hostLse (mat a s) := by
  funext r c
  unfold rows hostLse mass
  rw [← rowShift_row a s r]
  unfold mat
  pointwise [rowHalf]

theorem colTop_apply (a : FVec Ideal S65536x36x36 .f32) (s : Fin 65536) (u : Fin 1) (c : Fin 36) :
    colTop a (ix3 s u c) = peak fun k => mat a s k c := by
  unfold mat peak
  pointwise [colTop]
  rw [ofBits_bot]

theorem colShift_apply (t : FVec Ideal S65536x1x36 .f32) (i : S65536x1x36.Idx) :
    colShift t i = if max (t i) (-t i) < ⊤ then t i else 0 := by
  pointwise [colShift]
  rw [ofBits_top, absf_eq]

theorem colShift_col (a : FVec Ideal S65536x36x36 .f32) (s : Fin 65536) (c : Fin 36) :
    colShift (colTop a) (ix3 s 0 c) = shift fun k => mat a s k c := by
  rw [colShift_apply, colTop_apply]
  rfl

theorem mat_colHalf (a : FVec Ideal S65536x36x36 .f32) (s : Fin 65536) :
    mat (colHalf a) s = cols hostLse (mat a s) := by
  funext r c
  unfold cols hostLse mass
  rw [← colShift_col a s c]
  unfold mat
  pointwise [colHalf]

theorem mat_entry (x : FVec Ideal S65536x1296 .f32) (s : Fin 65536) : mat (entry x) s = scaled fun k => x (ix2 s k) := by
  funext r c
  unfold mat scaled
  rw [← div_hundredth, ← ofBits_hundred]
  pointwise [entry]

/-! ## The run -/

theorem halves_eq (V : Valuation τ sig (Elt Ideal)) :
    step_main_v4_2 V = colHalf (rowHalf (V (Proc.devRef .tc main_v4_2))) := rfl

variable (m : (ℓ : Loc nD τ sig) → Buf (Elt Ideal) ℓ) (ρ : Dev nD → PrngReg)

/-- The reference's argument array on device `c`. -/
abbrev arg (c : Dev nD) : FVec Ideal S65536x1296 .f32 := m ((c.tc : Thread nD τ).loc main_arg0)

theorem entry_eq (c : Dev nD) : entryContents preI m c (Proc.devRef .tc main_v4_2) = entry (arg m c) := by
  simp only [entryContents, afterL_cons, afterL_nil]
  after_reads_simp
  rfl

/-- One trip, on a sample's matrix. -/
theorem mat_trip (V : Valuation τ sig (Elt Ideal)) (s : Fin 65536) :
    mat (STEP V (Proc.devRef .tc main_v4_2)) s = round hostLse (mat (V (Proc.devRef .tc main_v4_2)) s) := by
  rw [STEP_main_v4_2, halves_eq, mat_colHalf, mat_rowHalf]
  rfl

/-- Any number of trips. -/
theorem mat_trips (V : Valuation τ sig (Elt Ideal)) (s : Fin 65536) (n : ℕ) :
    mat ((STEP^[n] V) (Proc.devRef .tc main_v4_2)) s = (round hostLse)^[n] (mat (V (Proc.devRef .tc main_v4_2)) s) := by
  induction n with
  | zero => rfl
  | succ n ih => rw [Function.iterate_succ_apply', Function.iterate_succ_apply', mat_trip, ih]

/-- Every sample's matrix, as the reference computes it. -/
def whole (x : FVec Ideal S65536x1296 .f32) : FVec Ideal S65536x36x36 .f32 := fun i =>
  Ideal.exp ((round hostLse)^[21] (scaled fun k => x (ix2 (i 0) k)) (i 1) (i 2))

theorem out_eq (c : Dev nD) : out_main_v5 (STEP^[21] (entryContents preI m c)) = whole (arg m c) := by
  funext i
  obtain ⟨s, r, q, rfl⟩ : ∃ (s : Fin 65536) (r q : Fin 36), i = ix3 s r q := ⟨i 0, i 1, i 2, eq_ix3 i⟩
  have h := congrFun (congrFun (mat_trips (entryContents preI m c) s 21) r) q
  rw [entry_eq, mat_entry] at h
  exact congrArg Ideal.exp h

/-- The whole run: the result array, and the argument unchanged. -/
theorem run : θ_run (defs (F := Ideal)) (onTc (τ := τ) (main (F := Ideal))) ⟨m, fun _ => 0, ρ⟩ fun r => ∀ c : Dev nD,
    r.2.mem ((c.tc : Thread nD τ).loc main_v5) = whole (arg m c)
    ∧ r.2.mem ((c.tc : Thread nD τ).loc main_arg0) = m ((c.tc : Thread nD τ).loc main_arg0) :=
  (θ_run defs _ _).mono (fun _ h c => ⟨(h c).1.trans (out_eq m c), (h c).2⟩) (Value.run m ρ)

end Cert.ReferenceIdeal.Whole

end
-- ==== Proof.lean ====
/-
  The certificate: the frames of the kernel and of the reference, and the value claim. Under `below_top` every entry of
  the argument is below plus infinity, and then the kernel's result (`Whole.run` in Proof/KernelValue.lean) and the
  reference's (in Proof/ReferenceValue.lean) are the same 21 Sinkhorn iterations of each sample's matrix
  (`Sinkhorn.result_eq`).
-/
module

public import proofs.«01_k».proof.Defs
public import proofs.«01_k».proof.Proof.Gen.Kernel.Frame
public import proofs.«01_k».proof.Proof.Gen.Pre_below_top
public import proofs.«01_k».proof.Proof.KernelValue
public import proofs.«01_k».proof.Proof.ReferenceValue
public import Idealize.ShloMosaic.Lib.Quiescent
public import Idealize.ShloMosaic.Lib.Claim

@[expose] public section

noncomputable section

namespace Cert.Proof

open Idealize.ShloMosaic Idealize.ShloMosaic.TcCoe Idealize.SL.Sem

/-- The precondition, entry by entry. -/
theorem lt_top (x : FVec Ideal Cert.Pre_below_top.S65536x1296 .f32)
    (h : Cert.Pre_below_top.fn (F := Ideal) x = fun _ => 1#1) (i : Cert.Pre_below_top.S65536x1296.Idx) : x i < ⊤ := by
  have hi : Ideal.cmp .olt (x i) (Ideal.ofBits .f32 0x7F800000#32) = 1#1 := congrFun h i
  rw [Cert.Sinkhorn.ofBits_top] at hi
  by_contra hn
  simp [Ideal.cmp, hn] at hi

/-- The reference runs, its argument ends unchanged, and every counter ends at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩) (Cert.ReferenceIdeal.Whole.run m ρ)

/-- The two results agree. -/
theorem whole_eq (x : FVec Ideal Cert.KernelIdeal.S65536x1296 .f32) (h : ∀ i, x i < ⊤) :
    Cert.ReferenceIdeal.Whole.whole x = Cert.KernelIdeal.Whole.whole x :=
  funext fun i => Cert.Sinkhorn.result_eq (x := fun k => x (ix2 (i 0) k)) (fun k => h _) (i 1) (i 2)

theorem claim : Cert.Claim :=
  ⟨Cert.Kernel.Gen.facts, Cert.KernelIdeal.Gen.facts, Cert.ReferenceIdeal.Gen.facts, Cert.Pre_below_top.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    fun m ρ m' ρ' hpre hargs => ⟨fun c => Cert.KernelIdeal.Whole.whole (Cert.KernelIdeal.Whole.arg m c),
      Cert.KernelIdeal.Whole.run m ρ,
      (θ_run _ _ _).mono (fun r h c => ⟨(h c).1.trans
          ((congrArg Cert.ReferenceIdeal.Whole.whole (hargs c)).trans (whole_eq _ (lt_top _ (hpre c)))), (h c).2⟩)
        (Cert.ReferenceIdeal.Whole.run m' ρ')⟩⟩

end Cert.Proof

end
